-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S256x8192 : Shape := ⟨2, ![256, 8192]⟩
abbrev S128x128 : Shape := ⟨2, ![128, 128]⟩
abbrev S8192x64 : Shape := ⟨2, ![8192, 64]⟩
abbrev S64x8192 : Shape := ⟨2, ![64, 8192]⟩
abbrev S256x64 : Shape := ⟨2, ![256, 64]⟩
abbrev S256x128 : Shape := ⟨2, ![256, 128]⟩
abbrev S64x128 : Shape := ⟨2, ![64, 128]⟩

abbrev nBuf : Space → Nat
  | .hbm => 2
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x8192 : Shape := ⟨2, ![4096, 8192]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S_, .f32⟩
  | .hbm, ⟨3, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Sums.lean ====
/- Finite sums over a row of 8192 extended reals: the running sum up to a column, and how it splits
   at a boundary of the 64 chunks of 128 columns. Plain mathematics; no program is mentioned. -/
module

public import Mathlib.Data.EReal.Operations
public import Mathlib.Algebra.BigOperators.Fin
public import Mathlib.Algebra.BigOperators.Ring.Finset

@[expose] public section

noncomputable section

namespace Cert.Cumsum

/-- The running sum of a row: the sum of the entries at columns up to and including `q`. -/
def upTo (f : Fin 8192 → EReal) (q : ℕ) : EReal := ∑ j : Fin 8192, if j.val ≤ q then f j else 0

/-- The sum of all the entries of a row that lie in chunks of 128 columns before chunk `k`. -/
def before (f : Fin 8192 → EReal) (k : ℕ) : EReal := ∑ j : Fin 8192, if j.val / 128 < k then f j else 0

/-- Column `l` of chunk `k` as a column of the row. -/
def col (k : Fin 64) (l : Fin 128) : Fin 8192 := ⟨128 * k.val + l.val, by omega⟩

/-- Every column is column `j % 128` of chunk `j / 128`. -/
theorem col_div_mod (j : Fin 8192) : col ⟨j.val / 128, by omega⟩ ⟨j.val % 128, by omega⟩ = j := by
  apply Fin.ext
  show 128 * (j.val / 128) + j.val % 128 = j.val
  omega

/-- The columns of a row are the pairs of a chunk and a column within it. -/
def colEquiv : Fin 64 × Fin 128 ≃ Fin 8192 where
  toFun p := col p.1 p.2
  invFun j := (⟨j.val / 128, by omega⟩, ⟨j.val % 128, by omega⟩)
  left_inv p := by
    obtain ⟨k, l⟩ := p
    apply Prod.ext <;> apply Fin.ext
    · show (128 * k.val + l.val) / 128 = k.val
      omega
    · show (128 * k.val + l.val) % 128 = l.val
      omega
  right_inv j := col_div_mod j

/-- A sum over the row is the sum over its chunks of the sums over each chunk. -/
theorem sum_col (g : Fin 8192 → EReal) : ∑ j, g j = ∑ k, ∑ l, g (col k l) :=
  (Fintype.sum_equiv colEquiv (fun p => g (col p.1 p.2)) g fun _ => rfl).symm.trans (Fintype.sum_prod_type _)

/-- The running sum at column `l` of chunk `k`: the running sum inside the chunk, and the sum of
    all the chunks before it. -/
theorem chunk_add_before (f : Fin 8192 → EReal) (k : Fin 64) (l : Fin 128) :
    (∑ a : Fin 128, if a.val ≤ l.val then f (col k a) else 0) + before f k.val = upTo f (col k l).val := by
  have hchunk : (∑ a : Fin 128, if a.val ≤ l.val then f (col k a) else 0)
      = ∑ j : Fin 8192, if j.val / 128 = k.val ∧ j.val % 128 ≤ l.val then f j else 0 := by
    rw [sum_col, Finset.sum_eq_single k]
    · refine Finset.sum_congr rfl fun a _ => if_congr ?_ rfl rfl
      show _ ↔ (128 * k.val + a.val) / 128 = k.val ∧ (128 * k.val + a.val) % 128 ≤ l.val
      omega
    · intro c _ hc
      refine Finset.sum_eq_zero fun a _ => if_neg ?_
      rintro ⟨h, -⟩
      have h' : (128 * c.val + a.val) / 128 = k.val := h
      exact hc (Fin.ext (by omega))
    · exact fun h => absurd (Finset.mem_univ k) h
  rw [hchunk, before, upTo, ← Finset.sum_add_distrib]
  refine Finset.sum_congr rfl fun j _ => ?_
  have e : (col k l).val = 128 * k.val + l.val := rfl
  rw [e]
  by_cases h1 : j.val / 128 < k.val
  · rw [if_neg (by omega), if_pos h1, if_pos (by omega), zero_add]
  · rw [if_neg h1, add_zero]
    exact if_congr (by omega) rfl rfl

/-- A sum of products with a 0/1 mask is the sum of the entries the mask keeps. On the extended
    reals a product with zero is zero whatever the other factor is, so nothing need be finite. -/
theorem sum_mul_mask {n : ℕ} (f : Fin n → EReal) (p : Fin n → Prop) [DecidablePred p] :
    ∑ j, f j * (if p j then (1 : EReal) else 0) = ∑ j, if p j then f j else 0 := by
  refine Finset.sum_congr rfl fun j _ => ?_
  by_cases h : p j
  · rw [if_pos h, if_pos h, mul_one]
  · rw [if_neg h, if_neg h, mul_zero]

/-- A sum of products with the mask of one position is the entry there. -/
theorem sum_mul_pick {n : ℕ} (f : Fin n → EReal) (k : Fin n) :
    ∑ c, f c * (if c.val = k.val then (1 : EReal) else 0) = f k := by
  rw [sum_mul_mask, Finset.sum_eq_single k]
  · rw [if_pos rfl]
  · exact fun c _ hc => if_neg fun h => hc (Fin.ext h)
  · exact fun h => absurd (Finset.mem_univ k) h

end Cert.Cumsum

end
-- ==== Proof.Masks.lean ====
/- The three 0/1 matrices the kernel builds from iotas, read at an index over the extended reals:
   the triangle (row ≤ column), the chunk-before mask (chunk of the row < column) and the
   chunk-of-column mask (row = chunk of the column). -/
module

public import proofs.«01_k».proof.Proof.Gen.KernelIdeal.Frame
public import Idealize.ShloMosaic.Lib.Routing.Words
public import Idealize.ShloMosaic.Lib.WordCmp
public import Idealize.ShloMosaic.Lib.ValueIdx

@[expose] public section

noncomputable section

namespace Cert.Cumsum

open Idealize.ShloMosaic Idealize.ShloMosaic.ValueIdx Idealize.ShloMosaic.WordCmp Cert.KernelIdeal Cert.KernelIdeal.Gen

/-- The printed floor division of a word by 128, element by element: the quotient rounded toward
    zero, less one where the signs differ and the remainder is not zero. -/
def floorDiv (x : BitVec 32) : BitVec 32 :=
  Scalar.select
    (IntOp.andi
      (IntOp.cmpi .ne
        ((IntOp.cmpi .sgt x 0#32).setWidth 32 - (IntOp.cmpi .slt x 0#32).setWidth 32)
        (Scalar.subi (Scalar.extui (Scalar.cmpi .sgt 128#32 0#32)) (Scalar.extui (Scalar.cmpi .slt 128#32 0#32))))
      (IntOp.cmpi .ne (IntOp.remsi .vector x 128#32) 0#32))
    (IntOp.divsi .vector x 128#32 - 1#32) (IntOp.divsi .vector x 128#32)

/-- On the word of a natural below 2³¹ the printed floor division is the natural's quotient by 128. -/
theorem floorDiv_word {a : ℕ} (ha : a < 2 ^ 31) : floorDiv (BitVec.ofNat 32 a) = BitVec.ofNat 32 (a / 128) := by
  have hq : IntOp.divsi .vector (BitVec.ofNat 32 a) 128#32 = BitVec.ofNat 32 (a / 128) :=
    Routing.divsi_word .vector (b := 128) ha (by omega) (by omega)
  have hr : IntOp.remsi .vector (BitVec.ofNat 32 a) 128#32 = BitVec.ofNat 32 (a % 128) :=
    Routing.remsi_word .vector (b := 128) ha (by omega) (by omega)
  have hg : IntOp.cmpi .sgt (BitVec.ofNat 32 a) 0#32 = BitVec.ofBool (decide (0 < a)) :=
    cmpi_sgt_ofNat (b := 0) ha (by omega)
  have hl : IntOp.cmpi .slt (BitVec.ofNat 32 a) 0#32 = BitVec.ofBool (decide (a < 0)) :=
    cmpi_slt_ofNat (b := 0) ha (by omega)
  have hcond : ∀ b : BitVec 1, Scalar.select (IntOp.andi 0#1 b) (BitVec.ofNat 32 (a / 128) - 1#32) (BitVec.ofNat 32 (a / 128))
      = BitVec.ofNat 32 (a / 128) := by
    intro b
    show Scalar.select (0#1 &&& b) _ _ = _
    rw [BitVec.zero_and]
    rfl
  unfold floorDiv
  rw [hq, hr, hg, hl]
  rcases Nat.eq_zero_or_pos a with h | h
  · subst h
    decide
  · rw [decide_eq_true h, decide_eq_false (Nat.not_lt_zero a)]
    exact hcond _

/-- A truth value widened and read as a number is one or zero. -/
theorem bit_value (p : Prop) [Decidable p] :
    (FloatOps.sitofp (F := Ideal) .f32 ((BitVec.ofBool (decide p)).setWidth 32) : EReal) = if p then 1 else 0 := by
  by_cases h : p
  · rw [if_pos h, decide_eq_true h]
    show (((((BitVec.ofBool true).setWidth 32).toInt : ℝ)) : EReal) = 1
    have : ((BitVec.ofBool true).setWidth 32).toInt = 1 := by decide
    rw [this]; norm_num
  · rw [if_neg h, decide_eq_false h]
    show (((((BitVec.ofBool false).setWidth 32).toInt : ℝ)) : EReal) = 0
    have : ((BitVec.ofBool false).setWidth 32).toInt = 0 := by decide
    rw [this]; norm_num

/-- An iota along the rows holds at an index the word of its row. -/
theorem iota_row {M N : ℕ} (h : (⟨2, ![M, N]⟩ : Shape).Iotas .tc 32 [0]) (i : Fin M) (j : Fin N) :
    iota .tc ⟨2, ![M, N]⟩ 32 [0] h (ix2 i j) = BitVec.ofNat 32 i.val := by
  show BitVec.ofNat 32 (0 * M + i.val) = _
  rw [Nat.zero_mul, Nat.zero_add]

/-- An iota along the columns holds at an index the word of its column. -/
theorem iota_col {M N : ℕ} (h : (⟨2, ![M, N]⟩ : Shape).Iotas .tc 32 [1]) (i : Fin M) (j : Fin N) :
    iota .tc ⟨2, ![M, N]⟩ 32 [1] h (ix2 i j) = BitVec.ofNat 32 j.val := by
  show BitVec.ofNat 32 (0 * N + j.val) = _
  rw [Nat.zero_mul, Nat.zero_add]

/-- The triangle: one where the row is at most the column, zero elsewhere. -/
theorem tri_apply (i l : Fin 128) : k0_pay1 (F := Ideal) (ix2 i l) = if i.val ≤ l.val then (1 : EReal) else 0 := by
  have e : IntOp.cmpi .sle (BitVec.ofNat 32 i.val) (BitVec.ofNat 32 l.val) = BitVec.ofBool (decide (i.val ≤ l.val)) :=
    cmpi_sle_ofNat (by omega) (by omega)
  rw [← bit_value, ← e, ← iota_row iota_S128x128_d0_w32 i l, ← iota_col iota_S128x128_d1_w32 i l]
  rfl

/-- The chunk-before mask: one where the chunk of the row is before the column, zero elsewhere. -/
theorem before_apply (j : Fin 8192) (c : Fin 64) :
    k0_pay2 (F := Ideal) (ix2 j c) = if j.val / 128 < c.val then (1 : EReal) else 0 := by
  have e : IntOp.cmpi .slt (BitVec.ofNat 32 (j.val / 128)) (BitVec.ofNat 32 c.val) = BitVec.ofBool (decide (j.val / 128 < c.val)) :=
    cmpi_slt_ofNat (by omega) (by omega)
  rw [← bit_value, ← e, ← floorDiv_word (by omega), ← iota_row iota_S8192x64_d0_w32 j c, ← iota_col iota_S8192x64_d1_w32 j c]
  rfl

/-- The chunk-of-column mask: one where the row is the chunk of the column, zero elsewhere. -/
theorem pick_apply (x : FVec Ideal S256x8192 .f32) (c : Fin 64) (j : Fin 8192) :
    (k0_pay82 (F := Ideal) x (ix2 c j) : EReal) = if c.val = j.val / 128 then (1 : EReal) else 0 := by
  have e : IntOp.cmpi .eq (BitVec.ofNat 32 c.val) (BitVec.ofNat 32 (j.val / 128)) = BitVec.ofBool (decide (c.val = j.val / 128)) :=
    cmpi_eq_ofNat (by omega) (by omega)
  rw [← bit_value, ← e, ← floorDiv_word (by omega), ← iota_row iota_S64x8192_d0_w32 c j, ← iota_col iota_S64x8192_d1_w32 c j]
  rfl

end Cert.Cumsum

end
-- ==== Proof.Concat.lean ====
/- Arrays of one width joined along their columns, read at an index. -/
module

public import Idealize.ShloMosaic.Lib.Pointwise.SelectCore
public import Idealize.ShloMosaic.Lib.ValueIdxCore

@[expose] public section

namespace Cert.Cumsum

open Idealize.ShloMosaic hiding ix2
open Idealize.ShloMosaic.ValueIdx

/-- An array of a given shape, with its shape: how the joining operation takes its arrays. -/
abbrev piece {α : Type} (s : Shape) (x : s.Idx → α) : (s : Shape) × (s.Idx → α) := ⟨s, x⟩

/-- Walking along the joined arrays, position `n * w + l` with `l` below the common width `w` is
    reached in array number `n`, at its column `l`. -/
theorem concatenateAt_width {α : Type} {m w M : ℕ} (r : Fin m) (q : Fin M) (l : Fin w) :
    ∀ (L : List ((⟨2, ![m, w]⟩ : Shape).Idx → α)) (n : ℕ) (hn : n < L.length) (c : ℕ) (_ : c = n * w + l.val) (hs) (hc),
      concatenateAt ⟨2, ![m, M]⟩ 1 (ix2 r q) (L.map (piece (⟨2, ![m, w]⟩ : Shape))) hs c hc = L[n] (ix2 r l)
  | [], n, hn, _, _, _, _ => absurd hn (Nat.not_lt_zero n)
  | [x], 0, _, c, e, hs, hc => by
    have e' : c = l.val := by omega
    subst e'
    refine (concatenateAt_singleton 1 (ix2 r q) x hs l.val hc).trans (congrArg x ?_)
    rw [Shape.Idx.norm2]
    rfl
  | [_], n + 1, hn, _, _, _, _ => absurd hn (by simp)
  | x :: y :: L, 0, _, c, e, hs, hc => by
    have e' : c = l.val := by omega
    subst e'
    refine (concatenateAt_cons 1 (ix2 r q) x ⟨_, y⟩ (L.map (piece _)) hs l.val hc).trans ?_
    refine (dif_pos (show l.val < w from l.isLt)).trans (congrArg x ?_)
    rw [Shape.Idx.norm2]
    rfl
  | x :: y :: L, n + 1, hn, c, e, hs, hc => by
    have hge : ¬ c < w := by rw [e, Nat.add_mul]; omega
    refine (concatenateAt_cons 1 (ix2 r q) x ⟨_, y⟩ (L.map (piece _)) hs c hc).trans ?_
    refine (dif_neg (show ¬ c < w from hge)).trans ?_
    exact concatenateAt_width r q l (y :: L) n (Nat.lt_of_succ_lt_succ hn) (c - w)
      (by rw [e, Nat.add_mul]; omega) _ _

/-- A family of arrays of one width `w` joined along their columns: column `q = k * w + l` of the
    result, `l` below `w`, is column `l` of array number `k`. -/
theorem concatenate_family {α : Type} {m w M N : ℕ} (f : Fin N → (⟨2, ![m, w]⟩ : Shape).Idx → α)
    (h : Shape.Concatenates (((List.ofFn f).map (piece (⟨2, ![m, w]⟩ : Shape))).map (·.1)) ⟨2, ![m, M]⟩ 1)
    (r : Fin m) (q : Fin M) (k : Fin N) (l : Fin w) (e : q.val = k.val * w + l.val) :
    concatenate ⟨2, ![m, M]⟩ 1 ((List.ofFn f).map (piece (⟨2, ![m, w]⟩ : Shape))) h (ix2 r q) = f k (ix2 r l) := by
  have hn : k.val < (List.ofFn f).length := lt_of_lt_of_eq k.isLt List.length_ofFn.symm
  refine (concatenate_apply _ 1 _ h (ix2 r q)).trans ?_
  refine (concatenateAt_width r q l (List.ofFn f) k.val hn _ e _ _).trans ?_
  exact congrFun (List.getElem_ofFn hn) _

end Cert.Cumsum
-- ==== Proof.Block.lean ====
/- What one grid point's body computes from its block of 256 rows, over the extended reals: in each
   row the running sums of the row's entries. -/
module

public import proofs.«01_k».proof.Proof.Gen.KernelIdeal.Frame
public import proofs.«01_k».proof.Proof.Sums
public import proofs.«01_k».proof.Proof.Masks
public import proofs.«01_k».proof.Proof.Concat
public import Idealize.ShloMosaic.Lib.MatmulPlain
public import Idealize.ShloMosaic.Lib.Pipeline.Value

@[expose] public section

noncomputable section

namespace Cert.Cumsum

open Idealize.ShloMosaic hiding ix2
open Idealize.ShloMosaic.ValueIdx Cert.KernelIdeal Cert.KernelIdeal.Gen

/-- The columns of chunk `k` lie inside the row. -/
theorem slices_x (k : Fin 64) : S256x8192.Slices ![0, 128 * k.val] S256x128 :=
  ⟨rfl, fun a => match a with
    | ⟨0, _⟩ => (by show 0 + 256 ≤ 256; omega)
    | ⟨1, _⟩ => (by show 128 * k.val + 128 ≤ 8192; omega)⟩

/-- The columns of chunk `k` lie inside the chunk-of-column mask. -/
theorem slices_e (k : Fin 64) : S64x8192.Slices ![0, 128 * k.val] S64x128 :=
  ⟨rfl, fun a => match a with
    | ⟨0, _⟩ => (by show 0 + 64 ≤ 64; omega)
    | ⟨1, _⟩ => (by show 128 * k.val + 128 ≤ 8192; omega)⟩

/-- What the body computes for chunk `k`: the chunk times the triangle, plus the chunk-before sums
    times the chunk's columns of the chunk-of-column mask. -/
def chunk {F : FTy → Type} [FloatOps F] (v0 : Vec F S256x8192 .f32) (k : Fin 64) : FVec F S256x128 .f32 :=
  addf
    (matmul dot_S256x128_S128x128_S256x128_1_0_0_1_n_n none
      (extractStridedSlice S256x128 ![0, 128 * k.val] (k0_pay7 v0) (slices_x k)) k0_pay1 (constant S256x128 .f32 0x00000000#32))
    (matmul dot_S256x64_S64x128_S256x128_1_0_0_1_n_n none (k0_pay8 v0 k0_pay2)
      (extractStridedSlice S64x128 ![0, 128 * k.val] (k0_pay82 v0) (slices_e k)) (constant S256x128 .f32 0x00000000#32))

/-- The 64 chunks' arrays, joined along the columns, fill the block. -/
theorem chunks_join {F : FTy → Type} [FloatOps F] (v0 : Vec F S256x8192 .f32) :
    Shape.Concatenates (((List.ofFn (chunk v0)).map (piece S256x128)).map (·.1)) S256x8192 1 := by
  have e : ((List.ofFn (chunk v0)).map (piece S256x128)).map (·.1) = List.replicate 64 S256x128 := by
    rw [List.map_map, List.map_ofFn]
    exact List.ofFn_const 64 S256x128
  rw [e]
  decide

/-- The body leaves the 64 chunks' arrays joined along the columns. -/
theorem out_eq {F : FTy → Type} [FloatOps F] (x : Vec F S256x8192 .f32) :
    out0_1 x = concatenate S256x8192 1 ((List.ofFn (chunk x)).map (piece S256x128)) (chunks_join x) := by
  have hz : (![0, 0] : Fin 2 → Nat) = fun _ => 0 := by decide
  have hl : View.ld x r0_0 = x := View.ld_unit_zero hz _ x
  unfold out0_1
  refine (View.canon_unit_zero hz _ _).trans ?_
  unfold k0_pay84 k0_pay83 k0_pay78 k0_pay77
  rw [hl]
  rfl

/-- The chunk-before sums: at column `c` of a row, the sum of the row's entries in chunks before `c`. -/
theorem before_sum (x : FVec Ideal S256x8192 .f32) (r : Fin 256) (c : Fin 64) :
    k0_pay8 x (k0_pay2 (F := Ideal)) (ix2 r c) = before (fun j => x (ix2 r j)) c.val := by
  unfold k0_pay8
  refine (Ideal.matmul_plain_apply (M := 256) (K := 8192) (N := 64) none (k0_pay7 x) k0_pay2 _ r c).trans ?_
  rw [show constant (F := Ideal) S256x64 .f32 0x00000000#32 (ix2 r c) = (0 : EReal) from Ideal.ofBits_zero_f32, zero_add]
  refine (Finset.sum_congr rfl fun j _ => congrArg (x (ix2 r j) * ·) (before_apply j c)).trans ?_
  exact sum_mul_mask (fun j => x (ix2 r j)) fun j => j.val / 128 < c.val

/-- Column `l` of a slice of the columns of chunk `k` is column `l` of the chunk. -/
theorem slice_col {α : Type} {M : ℕ} (v : (⟨2, ![M, 8192]⟩ : Shape).Idx → α) (k : Fin 64)
    (h : (⟨2, ![M, 8192]⟩ : Shape).Slices ![0, 128 * k.val] ⟨2, ![M, 128]⟩) (r : Fin M) (l : Fin 128) :
    extractStridedSlice ⟨2, ![M, 128]⟩ ![0, 128 * k.val] v h (ix2 r l) = v (ix2 r (col k l)) := by
  refine congrArg v (funext fun a => Fin.ext ?_)
  match a with
  | ⟨0, _⟩ => exact Nat.zero_add r.val
  | ⟨1, _⟩ => rfl

/-- Chunk `k` of the result: at column `l` of a row, the sum of the row's entries up to that column. -/
theorem chunk_apply (x : FVec Ideal S256x8192 .f32) (k : Fin 64) (r : Fin 256) (l : Fin 128) :
    chunk (F := Ideal) x k (ix2 r l) = upTo (fun j => x (ix2 r j)) (col k l).val := by
  have hz : constant (F := Ideal) S256x128 .f32 0x00000000#32 (ix2 r l) = (0 : EReal) := Ideal.ofBits_zero_f32
  rw [← chunk_add_before]
  refine congrArg₂ (fun a b : EReal => a + b) ?_ ?_
  · refine (Ideal.matmul_plain_apply (M := 256) (K := 128) (N := 128) none _ k0_pay1 _ r l).trans ?_
    rw [hz, zero_add]
    have hx : ∀ i : Fin 128, extractStridedSlice S256x128 ![0, 128 * k.val] (k0_pay7 (F := Ideal) x) (slices_x k) (ix2 r i)
        = x (ix2 r (col k i)) := fun i => slice_col (k0_pay7 (F := Ideal) x) k (slices_x k) r i
    refine (Finset.sum_congr rfl fun i _ => congrArg₂ (fun a b : EReal => a * b) (hx i) (tri_apply i l)).trans ?_
    exact sum_mul_mask (fun i => x (ix2 r (col k i))) fun i => i.val ≤ l.val
  · refine (Ideal.matmul_plain_apply (M := 256) (K := 64) (N := 128) none (k0_pay8 x k0_pay2) _ _ r l).trans ?_
    rw [hz, zero_add]
    refine (Finset.sum_congr rfl fun c _ =>
      congrArg₂ (fun a b : EReal => a * b) (before_sum x r c) ((slice_col _ k (slices_e k) c l).trans (pick_apply x c (col k l)))).trans ?_
    have e : (col k l).val / 128 = k.val := by
      show (128 * k.val + l.val) / 128 = k.val
      omega
    rw [e]
    exact sum_mul_pick (fun c => before (fun j => x (ix2 r j)) c.val) k

/-- The joined chunks at a row and a column: the column's chunk, at the column within it. -/
theorem joined_apply (x : FVec Ideal S256x8192 .f32) (r : Fin 256) (k : Fin 64) (l : Fin 128) :
    concatenate S256x8192 1 ((List.ofFn (chunk (F := Ideal) x)).map (piece S256x128)) (chunks_join (F := Ideal) x) (ix2 r (col k l))
      = chunk (F := Ideal) x k (ix2 r l) := by
  have hq : (col k l).val = k.val * 128 + l.val := congrArg (· + l.val) (Nat.mul_comm 128 k.val)
  exact concatenate_family (chunk (F := Ideal) x) (chunks_join (F := Ideal) x) r (col k l) k l hq

/-- What the body computes from a block: at each column of each row, the sum of the row's entries up
    to that column. -/
theorem out_apply (x : FVec Ideal S256x8192 .f32) (r : Fin 256) (q : Fin 8192) :
    out0_1 (F := Ideal) x (ix2 r q) = upTo (fun j => x (ix2 r j)) q.val := by
  obtain ⟨⟨k, l⟩, rfl⟩ := colEquiv.surjective q
  show out0_1 (F := Ideal) x (ix2 r (col k l)) = upTo (fun j => x (ix2 r j)) (col k l).val
  rw [← chunk_apply, ← joined_apply, out_eq]

end Cert.Cumsum

end
-- ==== Proof.Result.lean ====
/- What the kernel leaves in its result array, over the extended reals: the running sums of the rows
   of its argument. The grid has 16 points; point `t` reads and writes rows `256 t` to `256 t + 255`. -/
module

public import proofs.«01_k».proof.Proof.Gen.KernelIdeal.Value
public import proofs.«01_k».proof.Proof.Block

@[expose] public section

noncomputable section

namespace Cert.Cumsum

open Idealize.ShloMosaic hiding ix2 eq_ix2
open Idealize.ShloMosaic.ValueIdx Idealize.ShloMosaic.TcCoe Idealize.SL.Sem Cert.KernelIdeal Cert.KernelIdeal.Gen

/-- The running sums along the rows of a 4096 by 8192 array. -/
def rowSums (x : S4096x8192.Idx → EReal) : S4096x8192.Idx → EReal :=
  fun i => upTo (fun j => x (ix2 (i 0) j)) (i 1).val

/-- Row `r` of the block of point `t` as a row of the whole array. -/
def row (t : Fin cfg0.N) (r : Fin 256) : Fin 4096 :=
  ⟨256 * t.val + r.val, by have h : t.val < 16 := lt_of_lt_of_eq t.isLt N_0; omega⟩

/-- Where the blocks of the two windows lie: at point `t`, from row `256 t` and column 0 on. -/
theorem offsets : ∀ t : Fin cfg0.N,
    (win0_0.index t 0 * win0_0.size 0 = 256 * t.val ∧ win0_0.index t 1 * win0_0.size 1 = 0)
    ∧ (win0_1.index t 0 * win0_1.size 0 = 256 * t.val ∧ win0_1.index t 1 * win0_1.size 1 = 0)
    ∧ win0_1.xsize (grid0.coords t) 0 = 256 ∧ win0_1.xsize (grid0.coords t) 1 = 8192 :=
  (by decide +kernel : ∀ t : Fin grid0.N,
    (win0_0.index t 0 * win0_0.size 0 = 256 * t.val ∧ win0_0.index t 1 * win0_0.size 1 = 0)
    ∧ (win0_1.index t 0 * win0_1.size 0 = 256 * t.val ∧ win0_1.index t 1 * win0_1.size 1 = 0)
    ∧ win0_1.xsize (grid0.coords t) 0 = 256 ∧ win0_1.xsize (grid0.coords t) 1 = 8192)

variable (m : (ℓ : Loc nD τ sig) → Buf (Elt Ideal) ℓ) (ρ : Dev nD → PrngReg)

/-- The argument array of device `c`. -/
abbrev arg (c : Dev nD) : S4096x8192.Idx → EReal := m ((c : Thread nD τ).loc main_arg0)

/-- The block of the argument that point `t` reads, at a row and a column. -/
theorem block_apply (c : Dev nD) (t : Fin cfg0.N) (r : Fin 256) (j : Fin 8192) :
    iblk m c 0 t (ix2 r j) = arg m c (ix2 (row t r) j) := by
  refine congrArg (arg m c) (funext fun a => Fin.ext ?_)
  match a with
  | ⟨0, _⟩ =>
    show win0_0.index t 0 * win0_0.size 0 + 1 * r.val = 256 * t.val + r.val
    rw [(offsets t).1.1, Nat.one_mul]
  | ⟨1, _⟩ =>
    show win0_0.index t 1 * win0_0.size 1 + 1 * j.val = j.val
    rw [(offsets t).1.2, Nat.one_mul, Nat.zero_add]

/-- The result's block at point `t`, at a row and a column. -/
theorem read_out (t : Fin cfg0.N) (G : S4096x8192.Idx → EReal) (r : Fin 256) (j : Fin 8192) :
    ((cfg0.win 1).blk t).view.read (Elt Ideal) G (ix2 r j) = G (ix2 (row t r) j) := by
  refine congrArg G (funext fun a => Fin.ext ?_)
  match a with
  | ⟨0, _⟩ =>
    show win0_1.index t 0 * win0_1.size 0 + 1 * r.val = 256 * t.val + r.val
    rw [(offsets t).2.1.1, Nat.one_mul]
  | ⟨1, _⟩ =>
    show win0_1.index t 1 * win0_1.size 1 + 1 * j.val = j.val
    rw [(offsets t).2.1.2, Nat.one_mul, Nat.zero_add]

/-- What point `t` writes back is its block of the running sums of the argument's rows. -/
theorem flushed_eq (c : Dev nD) (t : Fin cfg0.N) :
    (dats m 0 c).flushed 1 t = ((cfg0.win 1).blk t).view.read (Elt Ideal) (rowSums (arg m c)) := by
  rw [Cert.KernelIdeal.Value.flushed1]
  funext i
  obtain ⟨r, q, rfl⟩ : ∃ (r : Fin 256) (q : Fin 8192), i = ix2 r q := ⟨i 0, i 1, eq_ix2 (n0 := 256) (n1 := 8192) i⟩
  refine Eq.trans ?_ (read_out t (rowSums (arg m c)) r q).symm
  refine (out_apply (iblk m c 0 t) r q).trans ?_
  exact congrArg (fun f => upTo f q.val) (funext fun j => block_apply m c t r j)

/-- Every index of the result lies in the block of the point `row / 256`. -/
theorem cover (i : S4096x8192.Idx) : ∃ t : Fin cfg0.N, (cfg0.win 1).flush t = true ∧ i ∈ ((cfg0.win 1).blk t).view.set := by
  have h0 : (i 0).val < 4096 := (i 0).isLt
  have h1 : (i 1).val < 8192 := (i 1).isLt
  have hN : cfg0.N = 16 := N_0
  let t : Fin cfg0.N := ⟨(i 0).val / 256, by omega⟩
  refine ⟨t, flush0_1 t, ?_⟩
  show i ∈ ((View.whole main_v0).slice (win0_1.rect t)).set
  rw [View.set_slice_whole, Rect.mem_set_unit]
  obtain ⟨-, ⟨e0, e1⟩, s0, s1⟩ := offsets t
  have et : t.val = (i 0).val / 256 := rfl
  intro a
  match a with
  | ⟨0, _⟩ =>
    show win0_1.index t 0 * win0_1.size 0 ≤ (i 0).val ∧ (i 0).val < win0_1.index t 0 * win0_1.size 0 + win0_1.xsize (grid0.coords t) 0
    rw [e0, s0]
    omega
  | ⟨1, _⟩ =>
    show win0_1.index t 1 * win0_1.size 1 ≤ (i 1).val ∧ (i 1).val < win0_1.index t 1 * win0_1.size 1 + win0_1.xsize (grid0.coords t) 1
    rw [e1, s1]
    omega

/-- The result array ends holding the running sums of the argument's rows. -/
theorem result_eq (c : Dev nD) : (dats m 0 c).arrAt 1 cfg0.N = rowSums (arg m c) :=
  (dats m 0 c).arrAt_eq_of_cover 1 (rowSums (arg m c)) (fun t _ => flushed_eq m c t) cover

/-- Every run of the kernel over the extended reals ends with the running sums of the argument's
    rows in the result array, and the argument as it was. -/
theorem kernel_run : θ_run defs (onTc (τ := τ) (main (F := Ideal))) ⟨m, fun _ => 0, ρ⟩ fun r => ∀ c : Dev nD,
      r.2.mem ((c : Thread nD τ).loc main_v0) = rowSums (arg m c)
      ∧ r.2.mem ((c : Thread nD τ).loc main_arg0) = m ((c : Thread nD τ).loc main_arg0) :=
  (θ_run defs _ _).mono (fun _ h c => ⟨(h c).1.trans (result_eq m c), (h c).2⟩) (Cert.KernelIdeal.Value.run_blocks m ρ)

end Cert.Cumsum

end
-- ==== Proof.Reference.lean ====
/- What the reference computes, over the extended reals: a window sum of width 8192, padded by 8191
   zeros at the low end, is the running sum of each row. -/
module

public import proofs.«01_k».proof.Proof.Gen.ReferenceIdeal.Run
public import proofs.«01_k».proof.Proof.Sums
public import Idealize.ShloMosaic.Lib.Routing.Ops
public import Idealize.ShloMosaic.PureOps.Ideal.Laws

@[expose] public section

noncomputable section

namespace Cert.Cumsum

open Idealize.ShloMosaic Idealize.ShloMosaic.ValueIdx Cert.ReferenceIdeal Cert.ReferenceIdeal.Gen

/-- Adding up a list of terms onto zero, in order, over all the positions is their sum. -/
theorem foldl_add (n : ℕ) (g : Fin n → EReal) : (List.finRange n).foldl (fun r k => r + g k) 0 = ∑ k, g k := by
  rw [← List.foldl_map (f := g) (g := fun a b : EReal => a + b), ← List.sum_eq_foldl, ← List.ofFn_eq_map, List.sum_ofFn]

/-- The terms of one window, each an entry of the row or the padding's zero, add up to the running
    sum at the window's last column. -/
theorem window_sum (f : Fin 8192 → EReal) (q : Fin 8192) :
    (∑ n : Fin 8192, if h : 8191 ≤ q.val + n.val then f ⟨q.val + n.val - 8191, by omega⟩ else 0) = upTo f q.val := by
  unfold upTo
  rw [← Finset.sum_filter (fun j : Fin 8192 => j.val ≤ q.val)]
  have e : (∑ n : Fin 8192, if h : 8191 ≤ q.val + n.val then f ⟨q.val + n.val - 8191, by omega⟩ else 0)
      = ∑ n ∈ Finset.univ.filter (fun n : Fin 8192 => 8191 ≤ q.val + n.val), f ⟨q.val + n.val - 8191, by omega⟩ := by
    rw [Finset.sum_filter]
    refine Finset.sum_congr rfl fun n _ => ?_
    by_cases h : 8191 ≤ q.val + n.val
    · rw [dif_pos h, if_pos h]
    · rw [dif_neg h, if_neg h]
  rw [e]
  refine Finset.sum_nbij' (fun n => ⟨q.val + n.val - 8191, by omega⟩) (fun j => ⟨min 8191 (j.val + 8191 - q.val), by omega⟩) ?_ ?_ ?_ ?_ ?_
  · intro n hn
    rw [Finset.mem_filter] at hn ⊢
    refine ⟨Finset.mem_univ _, ?_⟩
    show q.val + n.val - 8191 ≤ q.val
    omega
  · intro j hj
    rw [Finset.mem_filter] at hj ⊢
    refine ⟨Finset.mem_univ _, ?_⟩
    show 8191 ≤ q.val + min 8191 (j.val + 8191 - q.val)
    omega
  · intro n hn
    rw [Finset.mem_filter] at hn
    apply Fin.ext
    show min 8191 (q.val + n.val - 8191 + 8191 - q.val) = n.val
    omega
  · intro j hj
    rw [Finset.mem_filter] at hj
    apply Fin.ext
    show q.val + min 8191 (j.val + 8191 - q.val) - 8191 = j.val
    omega
  · exact fun _ _ => rfl

/-- The reference's result, as its run states it, of an array. -/
abbrev refResult (x : FVec Ideal S4096x8192 .f32) : FVec Ideal S4096x8192 .f32 :=
  Host.reduceWindowAdd ![1, 8192] ![1, 1] ![0, 8191] ![0, 0] x
    (broadcastInDim S_ ![] bcast_S_S_ (constant S_ .f32 0x00000000#32)) reduceWindows_S4096x8192_S4096x8192_w1s1p0_0_w8192s1p8191_0 h_S_

/-- The reference's result at row `r` and column `q` is the sum of the row's entries up to that column. -/
theorem refResult_apply (x : FVec Ideal S4096x8192 .f32) (r : Fin 4096) (q : Fin 8192) :
    refResult x (ix2 r q) = upTo (fun j => x (ix2 r j)) q.val := by
  have hinit : ∀ i, broadcastInDim S_ ![] bcast_S_S_ (constant (F := Ideal) S_ .f32 0x00000000#32) i = (0 : EReal) :=
    fun _ => Ideal.ofBits_zero_f32
  rw [← window_sum]
  unfold refResult Host.reduceWindowAdd
  simp only [Ideal.hostReduceWindowAdd_def, Ideal.hostReduceWindowAdd]
  unfold Host.reduceWindow
  simp only [hinit]
  refine (foldl_add _ _).trans (Fintype.sum_equiv (finCongr (Routing.numel2 8192)) _ _ fun n => ?_)
  have hw0 : ((Routing.shape2 1 8192).rowMajor.symm n 0).val = 0 := by
    rw [Routing.symm2]
    rfl
  have hw1 : ((Routing.shape2 1 8192).rowMajor.symm n 1).val = n.val := by
    rw [Routing.symm2]
    rfl
  have hn : n.val < 8192 := (n.cast (Routing.numel2 8192)).isLt
  have h0 : r.val * 1 + ((Routing.shape2 1 8192).rowMajor.symm n 0).val - 0 = r.val := by omega
  have h1 : q.val * 1 + ((Routing.shape2 1 8192).rowMajor.symm n 1).val = q.val + n.val := by omega
  have hc : (finCongr (Routing.numel2 8192) n).val = n.val := rfl
  split
  · next hin =>
    have hle : 8191 ≤ q.val * 1 + ((Routing.shape2 1 8192).rowMajor.symm n 1).val := (hin 1).1
    rw [dif_pos (show 8191 ≤ q.val + (finCongr (Routing.numel2 8192) n).val by rw [hc]; omega)]
    refine congrArg x (funext fun a => Fin.ext ?_)
    match a with
    | ⟨0, _⟩ => exact h0
    | ⟨1, _⟩ => exact congrArg (· - 8191) h1
  · next hin =>
    rw [dif_neg]
    intro hle
    rw [hc] at hle
    refine hin fun a => ?_
    match a with
    | ⟨0, _⟩ =>
      show 0 ≤ r.val * 1 + ((Routing.shape2 1 8192).rowMajor.symm n 0).val
        ∧ r.val * 1 + ((Routing.shape2 1 8192).rowMajor.symm n 0).val - 0 < 4096
      omega
    | ⟨1, _⟩ =>
      show 8191 ≤ q.val * 1 + ((Routing.shape2 1 8192).rowMajor.symm n 1).val
        ∧ q.val * 1 + ((Routing.shape2 1 8192).rowMajor.symm n 1).val - 8191 < 8192
      omega

end Cert.Cumsum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Result
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the kernel ends with its argument unchanged and every semaphore counter at zero. -/
theorem frame_kernel : Cert.quiescent_Kernel := fun m ρ _ => Cert.Kernel.Gen.frame m ρ

/-- So does every run of the kernel over the extended reals. -/
theorem frame_kernelIdeal : Cert.quiescent_KernelIdeal := fun m ρ _ => Cert.KernelIdeal.Gen.frame m ρ

/-- So does every run of the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference's result is the running sums of its argument's rows. -/
theorem reference_eq (x : FVec Ideal Cert.ReferenceIdeal.S4096x8192 .f32) : Cert.Cumsum.refResult x = Cert.Cumsum.rowSums x := by
  funext i
  rw [ValueIdx.eq_ix2 (n0 := 4096) (n1 := 8192) i]
  exact Cert.Cumsum.refResult_apply x (i 0) (i 1)

/-- Over the extended reals, from arguments that agree, the kernel and the reference end with the
    same result: the running sums of the argument's rows. -/
theorem same_result : Cert.algebraic_KernelIdeal_ReferenceIdeal := by
  intro m ρ m' ρ' _ hagree
  refine ⟨fun c => Cert.Cumsum.rowSums (Cert.Cumsum.arg m c), Cert.Cumsum.kernel_run m ρ, ?_⟩
  refine (θ_run Cert.ReferenceIdeal.defs _ _).mono (fun r h c => ⟨(h c).1.trans ?_, (h c).2⟩)
    (Cert.ReferenceIdeal.Value.run (F := Ideal) m' ρ')
  refine (reference_eq _).trans ?_
  exact congrArg Cert.Cumsum.rowSums (hagree c)

/-- Everything the certificate claims. -/
theorem claim : Cert.Claim := ⟨Cert.Kernel.Gen.facts, Cert.KernelIdeal.Gen.facts, Cert.ReferenceIdeal.Gen.facts,
  frame_kernel, frame_kernelIdeal, frame_reference, trivial, same_result⟩

end Cert.Proof

end
